-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v1_0) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x4096 : Shape := ⟨3, ![2, 6144, 4096]⟩
abbrev S4096x8192 : Shape := ⟨2, ![4096, 8192]⟩
abbrev S8192 : Shape := ⟨1, ![8192]⟩
abbrev S2x6144x8192 : Shape := ⟨3, ![2, 6144, 8192]⟩
abbrev S12288x4096 : Shape := ⟨2, ![12288, 4096]⟩
abbrev S12288x8192 : Shape := ⟨2, ![12288, 8192]⟩
abbrev S1x8192 : Shape := ⟨2, ![1, 8192]⟩
abbrev S12288x512 : Shape := ⟨2, ![12288, 512]⟩
abbrev S512x512 : Shape := ⟨2, ![512, 512]⟩
abbrev S1x512 : Shape := ⟨2, ![1, 512]⟩
abbrev S1024x4096 : Shape := ⟨2, ![1024, 4096]⟩
abbrev S4096x1024 : Shape := ⟨2, ![4096, 1024]⟩
abbrev S1024x1024 : Shape := ⟨2, ![1024, 1024]⟩
abbrev S1024x8192 : Shape := ⟨2, ![1024, 8192]⟩
abbrev S512x8192 : Shape := ⟨2, ![512, 8192]⟩
abbrev S1024x512 : Shape := ⟨2, ![1024, 512]⟩

abbrev nBuf : Space → Nat
  | .hbm => 14
  | .vmem => 26
  | .smem => 0
  | _ => 0

abbrev bufTy : (tb : Table) → Fin (tcTables nBuf tb) → BufTy
  | .hbm, ⟨0, _⟩ => ⟨S2x6144x4096, .bf16⟩
  | .hbm, ⟨1, _⟩ => ⟨S4096x8192, .f32⟩
  | .hbm, ⟨2, _⟩ => ⟨S8192, .f32⟩
  | .hbm, ⟨3, _⟩ => ⟨S2x6144x8192, .bf16⟩
  | .hbm, ⟨4, _⟩ => ⟨S12288x4096, .bf16⟩
  | .hbm, ⟨5, _⟩ => ⟨S12288x8192, .bf16⟩
  | .hbm, ⟨6, _⟩ => ⟨S1x8192, .f32⟩
  | .hbm, ⟨7, _⟩ => ⟨S4096x8192, .f32⟩
  | .hbm, ⟨8, _⟩ => ⟨S4096x8192, .fp8e4m3⟩
  | .hbm, ⟨9, _⟩ => ⟨S4096x8192, .bf16⟩
  | .hbm, ⟨10, _⟩ => ⟨S12288x8192, .bf16⟩
  | .hbm, ⟨11, _⟩ => ⟨S12288x4096, .bf16⟩
  | .hbm, ⟨12, _⟩ => ⟨S2x6144x8192, .bf16⟩
  | .hbm, ⟨13, _⟩ => ⟨S2x6144x4096, .bf16⟩
  | .local _ .vmem, ⟨0, _⟩ => ⟨S12288x512, .bf16⟩
  | .local _ .vmem, ⟨1, _⟩ => ⟨S12288x512, .bf16⟩
  | .local _ .vmem, ⟨2, _⟩ => ⟨S12288x512, .bf16⟩
  | .local _ .vmem, ⟨3, _⟩ => ⟨S12288x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .fp8e4m3⟩
  | .local _ .vmem, ⟨11, _⟩ => ⟨S512x512, .fp8e4m3⟩
  | .local _ .vmem, ⟨12, _⟩ => ⟨S512x512, .bf16⟩
  | .local _ .vmem, ⟨13, _⟩ => ⟨S512x512, .bf16⟩
  | .local _ .vmem, ⟨14, _⟩ => ⟨S1024x4096, .bf16⟩
  | .local _ .vmem, ⟨15, _⟩ => ⟨S1024x4096, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x8192, .bf16⟩
  | .local _ .vmem, ⟨21, _⟩ => ⟨S1024x8192, .bf16⟩
  | .local _ .vmem, ⟨22, _⟩ => ⟨S512x8192, .bf16⟩
  | .local _ .vmem, ⟨23, _⟩ => ⟨S512x8192, .bf16⟩
  | .local _ .vmem, ⟨24, _⟩ => ⟨S1024x512, .bf16⟩
  | .local _ .vmem, ⟨25, _⟩ => ⟨S1024x512, .bf16⟩
  | _, _ => ⟨S2x6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S12288x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 12], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S2x6144x4096 : Shape := ⟨3, ![2, 6144, 4096]⟩
abbrev S4096x8192 : Shape := ⟨2, ![4096, 8192]⟩
abbrev S8192 : Shape := ⟨1, ![8192]⟩
abbrev S2x6144x8192 : Shape := ⟨3, ![2, 6144, 8192]⟩
abbrev S1x8192 : Shape := ⟨2, ![1, 8192]⟩
abbrev S_ : Shape := ⟨0, ![]⟩

abbrev nBuf : Space → Nat
  | .hbm => 26
  | .vmem => 4
  | .smem => 0
  | _ => 0

abbrev bufTy : (tb : Table) → Fin (tcTables nBuf tb) → BufTy
  | .hbm, ⟨0, _⟩ => ⟨S2x6144x4096, .bf16⟩
  | .hbm, ⟨1, _⟩ => ⟨S4096x8192, .f32⟩
  | .hbm, ⟨2, _⟩ => ⟨S8192, .f32⟩
  | .hbm, ⟨3, _⟩ => ⟨S2x6144x8192, .bf16⟩
  | .hbm, ⟨4, _⟩ => ⟨S1x8192, .f32⟩
  | .hbm, ⟨5, _⟩ => ⟨S4096x8192, .fp8e4m3⟩
  | .hbm, ⟨6, _⟩ => ⟨S4096x8192, .bf16⟩
  | .hbm, ⟨7, _⟩ => ⟨S2x6144x8192, .f32⟩
  | .hbm, ⟨8, _⟩ => ⟨S2x6144x8192, .bf16⟩
  | .hbm, ⟨9, _⟩ => ⟨S2x6144x4096, .f32⟩
  | .hbm, ⟨10, _⟩ => ⟨S2x6144x4096, .bf16⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .i1⟩
  | .hbm, ⟨22, _⟩ => ⟨S_, .f32⟩
  | .hbm, ⟨23, _⟩ => ⟨S_, .f32⟩
  | .hbm, ⟨24, _⟩ => ⟨S4096x8192, .f32⟩
  | .hbm, ⟨25, _⟩ => ⟨S4096x8192, .f32⟩
  | .local _ .vmem, ⟨0, _⟩ => ⟨S4096x8192, .f32⟩
  | .local _ .vmem, ⟨1, _⟩ => ⟨S1x8192, .f32⟩
  | .local _ .vmem, ⟨2, _⟩ => ⟨S4096x8192, .fp8e4m3⟩
  | .local _ .vmem, ⟨3, _⟩ => ⟨S4096x8192, .bf16⟩
  | _, _ => ⟨S2x6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/-
  The whole run of the idealized kernel program, with everything it leaves in memory kept.

  The generated frame proves that the program ends with its arguments unchanged; along the way it knows the contents of
  EVERY unscoped buffer at the end (the fold `W5`) and drops all but the arguments. This file runs the same launch and
  keeps them all (`run_all`), then walks the fold back: the two host reshapes at the end, the three kernel calls, the
  three host reshapes at the start. What is left is one equation per result, in terms of what each kernel call leaves in
  its output arrays when entered from the contents before it (`run_regions`).
-/
module

public import proofs.«01_k».proof.Proof.Gen.KernelIdeal.Frame
public import Idealize.ShloMosaic.Lib.StableHlo.Run

@[expose] public section

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- The program runs, and every unscoped buffer ends at the contents the fold `W5` names: the generated frame's launch,
    with its last thread state kept whole. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-! ## The contents at the boundaries, read back -/

/-- Before the first kernel call the activations are argument 0 with its two leading axes merged, -/
theorem V1_x (c : Dev nD) : V1 m ρ c main_v0
    = shapeCast S12288x4096 (m ((c : Thread nD τ).loc main_arg0)) shapeCasts_S2x6144x4096_S12288x4096 := by
  show StableHlo.after hostOps0 (W0 m ρ c) (Proc.devRef .tc main_v0) = _
  after_results
  rfl
/-- the output gradient is argument 3 with its two leading axes merged, -/
theorem V1_g (c : Dev nD) : V1 m ρ c main_v1
    = shapeCast S12288x8192 (m ((c : Thread nD τ).loc main_arg3)) shapeCasts_S2x6144x8192_S12288x8192 := by
  show StableHlo.after hostOps0 (W0 m ρ c) (Proc.devRef .tc main_v1) = _
  after_results
  rfl
/-- the scale is argument 2 as one row, -/
theorem V1_s (c : Dev nD) : V1 m ρ c main_v2
    = shapeCast S1x8192 (m ((c : Thread nD τ).loc main_arg2)) shapeCasts_S8192_S1x8192 := by
  show StableHlo.after hostOps0 (W0 m ρ c) (Proc.devRef .tc main_v2) = _
  after_results
  rfl
/-- and the weights are argument 1. -/
theorem V1_w (c : Dev nD) : V1 m ρ c main_arg1 = m ((c : Thread nD τ).loc main_arg1) :=
  W1_args m ρ c main_arg1 (by decide)

/-- The second kernel call finds the activations as before the first, -/
theorem V2_x (c : Dev nD) : V2 m ρ c main_v0 = V1 m ρ c main_v0 :=
  W2_of m ρ c main_v0 (by decide +kernel)
/-- and the dequantised weights the first one left. -/
theorem V2_wq (c : Dev nD) : V2 m ρ c main_v3_2 = (dat0 (V1 m ρ) c).arrAt 6 cfg0.N :=
  W2_arr m ρ c 6
/-- The third finds the output gradient as before the first, -/
theorem V3_g (c : Dev nD) : V3 m ρ c main_v1 = V1 m ρ c main_v1 :=
  (W3_of m ρ c main_v1 (by decide +kernel)).trans (W2_of m ρ c main_v1 (by decide +kernel))
/-- and the same dequantised weights. -/
theorem V3_wq (c : Dev nD) : V3 m ρ c main_v3_2 = (dat0 (V1 m ρ) c).arrAt 6 cfg0.N :=
  (W3_of m ρ c main_v3_2 (by decide +kernel)).trans (V2_wq m ρ c)

/-- The forward result: the second call's product with its rows split again. -/
theorem W5_y (c : Dev nD) : W5 m ρ c (Proc.devRef .tc main_v6)
    = shapeCast S2x6144x8192 ((dat1 (V2 m ρ) c).arrAt 2 cfg1.N) shapeCasts_S12288x8192_S2x6144x8192 := by
  have h : W4 m ρ c (Proc.devRef .tc main_v4) = (dat1 (V2 m ρ) c).arrAt 2 cfg1.N :=
    (W4_of m ρ c main_v4 (by decide +kernel)).trans (W3_arr m ρ c 2)
  rw [← h]
  show StableHlo.after hostOps3 (W4 m ρ c) (Proc.devRef .tc main_v6) = _
  after_results
  rfl
/-- The input gradient: the third call's product with its rows split again. -/
theorem W5_dx (c : Dev nD) : W5 m ρ c (Proc.devRef .tc main_v7)
    = shapeCast S2x6144x4096 ((dat2 (V3 m ρ) c).arrAt 2 cfg2.N) shapeCasts_S12288x4096_S2x6144x4096 := by
  have h : W4 m ρ c (Proc.devRef .tc main_v5) = (dat2 (V3 m ρ) c).arrAt 2 cfg2.N := W4_arr m ρ c 2
  rw [← h]
  show StableHlo.after hostOps3 (W4 m ρ c) (Proc.devRef .tc main_v7) = _
  after_results
  rfl
/-- The weight gradient: what the first call left, untouched since. -/
theorem W5_dw (c : Dev nD) : W5 m ρ c (Proc.devRef .tc main_v3_0) = (dat0 (V1 m ρ) c).arrAt 4 cfg0.N :=
  (W5_of m ρ c main_v3_0 (by decide)).trans ((W4_of m ρ c main_v3_0 (by decide +kernel)).trans
    ((W3_of m ρ c main_v3_0 (by decide +kernel)).trans (W2_arr m ρ c 4)))
/-- The codes: what the first call left, untouched since. -/
theorem W5_codes (c : Dev nD) : W5 m ρ c (Proc.devRef .tc main_v3_1) = (dat0 (V1 m ρ) c).arrAt 5 cfg0.N :=
  (W5_of m ρ c main_v3_1 (by decide)).trans ((W4_of m ρ c main_v3_1 (by decide +kernel)).trans
    ((W3_of m ρ c main_v3_1 (by decide +kernel)).trans (W2_arr m ρ c 5)))

/-- The run with its four results named by what the kernel calls leave, and the arguments unchanged. -/
theorem run_regions : θ_run defs (onTc (τ := τ) (main (F := F))) ⟨m, fun _ => 0, ρ⟩ (fun r => ∀ c : Dev nD,
      r.2.mem ((c.tc : Thread nD τ).loc main_v6)
        = shapeCast S2x6144x8192 ((dat1 (V2 m ρ) c).arrAt 2 cfg1.N) shapeCasts_S12288x8192_S2x6144x8192
      ∧ r.2.mem ((c.tc : Thread nD τ).loc main_v7)
        = shapeCast S2x6144x4096 ((dat2 (V3 m ρ) c).arrAt 2 cfg2.N) shapeCasts_S12288x4096_S2x6144x4096
      ∧ r.2.mem ((c.tc : Thread nD τ).loc main_v3_0) = (dat0 (V1 m ρ) c).arrAt 4 cfg0.N
      ∧ r.2.mem ((c.tc : Thread nD τ).loc main_v3_1) = (dat0 (V1 m ρ) c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (W5_y m ρ c),
     (h c _ (mem_uc main_v7 (by decide))).trans (W5_dx m ρ c),
     (h c _ (mem_uc main_v3_0 (by decide))).trans (W5_dw m ρ c),
     (h c _ (mem_uc main_v3_1 (by decide))).trans (W5_codes m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩)
    (run_all m ρ)

end Cert.KernelIdeal.WholeRun

end
-- ==== Proof.KernelBlocks.lean ====
/-
  What each of the three kernel calls leaves in its output arrays, over the extended reals.

  Every output block is written once, at one grid point, from the input blocks at that point. Each section reads the
  body's stored value at an index (a clipped quotient, or a sum of products), moves the index from the block to the whole
  array (the windows' index maps in closed form, decided over the grid), and concludes: since the blocks tile the array,
  the array ends holding one whole-array function of the arrays the call was entered with.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Blocks

open Cert.KernelIdeal Cert.KernelIdeal.Gen
open Idealize.ShloMosaic Idealize.ShloMosaic.TcCoe
open Idealize.SL.Sem
open Idealize.ShloMosaic.Pipeline (Dat)

/-! ## The functions, element by element -/

/-- One weight's code before rounding: the weight over the scale, clipped to ±448 (a change of format is the identity
    on the extended reals). -/
def code (w s : EReal) : EReal :=
  min (Ideal.ofBits .f32 0x43E00000#32) (max (Ideal.ofBits .f32 0xC3E00000#32) (w * Ideal.div 1 s))

/-- One entry of the weight gradient: the sum `dot` where the scaled weight lies within ±448, zero elsewhere. -/
def masked (w s dot : EReal) : EReal :=
  if FloatOps.absf (F := Ideal) (φ := .f32) w * Ideal.div 1 s ≤ Ideal.ofBits .f32 0x43E00000#32 then dot else 0

/-- The codes of the weights `w` at the row of scales `s`, -/
def codes (w : Vec Ideal S4096x8192 .f32) (s : Vec Ideal S1x8192 .f32) : Vec Ideal S4096x8192 .fp8e4m3 :=
  fun i => code (w i) (s (ix2 0 (i 1)))
/-- the dequantised weights, -/
def wq (w : Vec Ideal S4096x8192 .f32) (s : Vec Ideal S1x8192 .f32) : Vec Ideal S4096x8192 .bf16 :=
  fun i => code (w i) (s (ix2 0 (i 1))) * s (ix2 0 (i 1))
/-- the weight gradient: the masked product of the transposed activations with the output gradient, -/
def dw (w : Vec Ideal S4096x8192 .f32) (s : Vec Ideal S1x8192 .f32) (x : Vec Ideal S12288x4096 .bf16)
    (g : Vec Ideal S12288x8192 .bf16) : Vec Ideal S4096x8192 .f32 :=
  fun i => masked (w i) (s (ix2 0 (i 1))) (∑ n : Fin 12288, x (ix2 n (i 0)) * g (ix2 n (i 1)))
/-- the forward product of the activations with the dequantised weights, -/
def y (x : Vec Ideal S12288x4096 .bf16) (q : Vec Ideal S4096x8192 .bf16) : Vec Ideal S12288x8192 .bf16 :=
  fun i => ∑ k : Fin 4096, x (ix2 (i 0) k) * q (ix2 k (i 1))
/-- and the product of the output gradient with the transposed dequantised weights. -/
def dx (g : Vec Ideal S12288x8192 .bf16) (q : Vec Ideal S4096x8192 .bf16) : Vec Ideal S12288x4096 .bf16 :=
  fun i => ∑ k : Fin 8192, g (ix2 (i 0) k) * q (ix2 (i 1) k)

/-! ## The bodies' stored values at an index -/

theorem pay3_apply (s : Vec Ideal S1x512 .f32) (w : Vec Ideal S512x512 .f32) (a b : Fin 512) :
    k0_pay3 s w (ix2 a b) = code (w (ix2 a b)) (s (ix2 0 b)) := by
  pointwise [Gen.k0_pay3, Gen.k0_pay2, Gen.k0_pay1, code]

theorem pay4_apply (s : Vec Ideal S1x512 .f32) (w : Vec Ideal S512x512 .f32) (a b : Fin 512) :
    k0_pay4 s w (ix2 a b) = code (w (ix2 a b)) (s (ix2 0 b)) * s (ix2 0 b) := by
  pointwise [Gen.k0_pay4, Gen.k0_pay3, Gen.k0_pay2, Gen.k0_pay1, code]

theorem pay5_apply (s : Vec Ideal S1x512 .f32) (w : Vec Ideal S512x512 .f32) (x g : Vec Ideal S12288x512 .bf16) (a b : Fin 512) :
    k0_pay5 s w x g (ix2 a b)
      = masked (w (ix2 a b)) (s (ix2 0 b)) (∑ n : Fin 12288, x (ix2 n a) * g (ix2 n b)) := by
  pointwise [Gen.k0_pay5, Gen.k0_pay2, Gen.k0_pay1, masked]

theorem k1_pay1_apply (x : Vec Ideal S1024x4096 .bf16) (q : Vec Ideal S4096x1024 .bf16) (a b : Fin 1024) :
    k1_pay1 x q (ix2 a b) = ∑ k : Fin 4096, x (ix2 a k) * q (ix2 k b) := by
  pointwise [Gen.k1_pay1]

theorem k2_pay1_apply (g : Vec Ideal S1024x8192 .bf16) (q : Vec Ideal S512x8192 .bf16) (a : Fin 1024) (b : Fin 512) :
    k2_pay1 g q (ix2 a b) = ∑ k : Fin 8192, g (ix2 a k) * q (ix2 b k) := by
  pointwise [Gen.k2_pay1]

theorem hz : (![0, 0] : Fin 2 → Nat) = fun _ => 0 := funext fun a => by fin_cases a <;> rfl

/-! ## Where each window's block lies, in closed form over the grid -/

theorem off0_0 : ∀ t : Fin grid0.N, win0_0.index t 0 * win0_0.size 0 = 0 ∧ win0_0.index t 1 * win0_0.size 1 = t.val / 16 * 512 := by
  decide +kernel
theorem off0_1 : ∀ t : Fin grid0.N, win0_1.index t 0 * win0_1.size 0 = 0 ∧ win0_1.index t 1 * win0_1.size 1 = t.val % 16 * 512 := by
  decide +kernel
theorem off0_2 : ∀ t : Fin grid0.N, win0_2.index t 0 * win0_2.size 0 = t.val / 16 * 512 ∧ win0_2.index t 1 * win0_2.size 1 = t.val % 16 * 512 := by
  decide +kernel
theorem off0_3 : ∀ t : Fin grid0.N, win0_3.index t 0 * win0_3.size 0 = 0 ∧ win0_3.index t 1 * win0_3.size 1 = t.val % 16 * 512 := by
  decide +kernel
theorem off0_4 : ∀ t : Fin grid0.N, win0_4.index t 0 * win0_4.size 0 = t.val / 16 * 512 ∧ win0_4.index t 1 * win0_4.size 1 = t.val % 16 * 512 := by
  decide +kernel
theorem off0_5 : ∀ t : Fin grid0.N, win0_5.index t 0 * win0_5.size 0 = t.val / 16 * 512 ∧ win0_5.index t 1 * win0_5.size 1 = t.val % 16 * 512 := by
  decide +kernel
theorem off0_6 : ∀ t : Fin grid0.N, win0_6.index t 0 * win0_6.size 0 = t.val / 16 * 512 ∧ win0_6.index t 1 * win0_6.size 1 = t.val % 16 * 512 := by
  decide +kernel
theorem off1_0 : ∀ t : Fin grid1.N, win1_0.index t 0 * win1_0.size 0 = t.val % 12 * 1024 ∧ win1_0.index t 1 * win1_0.size 1 = 0 := by
  decide +kernel
theorem off1_1 : ∀ t : Fin grid1.N, win1_1.index t 0 * win1_1.size 0 = 0 ∧ win1_1.index t 1 * win1_1.size 1 = t.val / 12 * 1024 := by
  decide +kernel
theorem off1_2 : ∀ t : Fin grid1.N, win1_2.index t 0 * win1_2.size 0 = t.val % 12 * 1024 ∧ win1_2.index t 1 * win1_2.size 1 = t.val / 12 * 1024 := by
  decide +kernel
theorem off2_0 : ∀ t : Fin grid2.N, win2_0.index t 0 * win2_0.size 0 = t.val % 12 * 1024 ∧ win2_0.index t 1 * win2_0.size 1 = 0 := by
  decide +kernel
theorem off2_1 : ∀ t : Fin grid2.N, win2_1.index t 0 * win2_1.size 0 = t.val / 12 * 512 ∧ win2_1.index t 1 * win2_1.size 1 = 0 := by
  decide +kernel
theorem off2_2 : ∀ t : Fin grid2.N, win2_2.index t 0 * win2_2.size 0 = t.val % 12 * 1024 ∧ win2_2.index t 1 * win2_2.size 1 = t.val / 12 * 512 := by
  decide +kernel

/-! ## The input blocks, read in the arrays -/

variable (V : (c : Dev nD) → (b : Ref sig .tc) → Buf (Elt Ideal) ((c : Thread nD τ).loc b)) (c : Dev nD)

theorem blk0_0 (t : Fin grid0.N) (j : S12288x512.Idx) (i : S12288x4096.Idx)
    (h0 : (i 0).val = (j 0).val) (h1 : (i 1).val = t.val / 16 * 512 + (j 1).val) :
    iblk0 V c 0 t j = V c main_v0 i := by
  show V c main_v0 ((win0_0.rect t).emb j) = V c main_v0 i
  refine congrArg (V c main_v0) (funext fun a => Fin.ext ?_)
  have e := off0_0 t
  match a with
  | ⟨0, _⟩ => exact ((win0_0.rect_emb_val t j 0).trans (by rw [e.1]; all_goals exact Nat.zero_add _)).trans h0.symm
  | ⟨1, _⟩ => exact ((win0_0.rect_emb_val t j 1).trans (by rw [e.2]; all_goals exact Nat.zero_add _)).trans h1.symm
theorem blk0_1 (t : Fin grid0.N) (j : S12288x512.Idx) (i : S12288x8192.Idx)
    (h0 : (i 0).val = (j 0).val) (h1 : (i 1).val = t.val % 16 * 512 + (j 1).val) :
    iblk0 V c 1 t j = V c main_v1 i := by
  show V c main_v1 ((win0_1.rect t).emb j) = V c main_v1 i
  refine congrArg (V c main_v1) (funext fun a => Fin.ext ?_)
  have e := off0_1 t
  match a with
  | ⟨0, _⟩ => exact ((win0_1.rect_emb_val t j 0).trans (by rw [e.1]; all_goals exact Nat.zero_add _)).trans h0.symm
  | ⟨1, _⟩ => exact ((win0_1.rect_emb_val t j 1).trans (by rw [e.2]; all_goals exact Nat.zero_add _)).trans h1.symm
theorem blk0_2 (t : Fin grid0.N) (j : S512x512.Idx) (i : S4096x8192.Idx)
    (h0 : (i 0).val = t.val / 16 * 512 + (j 0).val) (h1 : (i 1).val = t.val % 16 * 512 + (j 1).val) :
    iblk0 V c 2 t j = V c main_arg1 i := by
  show V c main_arg1 ((win0_2.rect t).emb j) = V c main_arg1 i
  refine congrArg (V c main_arg1) (funext fun a => Fin.ext ?_)
  have e := off0_2 t
  match a with
  | ⟨0, _⟩ => exact ((win0_2.rect_emb_val t j 0).trans (by rw [e.1]; all_goals exact Nat.zero_add _)).trans h0.symm
  | ⟨1, _⟩ => exact ((win0_2.rect_emb_val t j 1).trans (by rw [e.2]; all_goals exact Nat.zero_add _)).trans h1.symm
theorem blk0_3 (t : Fin grid0.N) (j : S1x512.Idx) (i : S1x8192.Idx)
    (h0 : (i 0).val = (j 0).val) (h1 : (i 1).val = t.val % 16 * 512 + (j 1).val) :
    iblk0 V c 3 t j = V c main_v2 i := by
  show V c main_v2 ((win0_3.rect t).emb j) = V c main_v2 i
  refine congrArg (V c main_v2) (funext fun a => Fin.ext ?_)
  have e := off0_3 t
  match a with
  | ⟨0, _⟩ => exact ((win0_3.rect_emb_val t j 0).trans (by rw [e.1]; all_goals exact Nat.zero_add _)).trans h0.symm
  | ⟨1, _⟩ => exact ((win0_3.rect_emb_val t j 1).trans (by rw [e.2]; all_goals exact Nat.zero_add _)).trans h1.symm
theorem blk1_0 (t : Fin grid1.N) (j : S1024x4096.Idx) (i : S12288x4096.Idx)
    (h0 : (i 0).val = t.val % 12 * 1024 + (j 0).val) (h1 : (i 1).val = (j 1).val) :
    iblk1 V c 0 t j = V c main_v0 i := by
  show V c main_v0 ((win1_0.rect t).emb j) = V c main_v0 i
  refine congrArg (V c main_v0) (funext fun a => Fin.ext ?_)
  have e := off1_0 t
  match a with
  | ⟨0, _⟩ => exact ((win1_0.rect_emb_val t j 0).trans (by rw [e.1]; all_goals exact Nat.zero_add _)).trans h0.symm
  | ⟨1, _⟩ => exact ((win1_0.rect_emb_val t j 1).trans (by rw [e.2]; all_goals exact Nat.zero_add _)).trans h1.symm
theorem blk1_1 (t : Fin grid1.N) (j : S4096x1024.Idx) (i : S4096x8192.Idx)
    (h0 : (i 0).val = (j 0).val) (h1 : (i 1).val = t.val / 12 * 1024 + (j 1).val) :
    iblk1 V c 1 t j = V c main_v3_2 i := by
  show V c main_v3_2 ((win1_1.rect t).emb j) = V c main_v3_2 i
  refine congrArg (V c main_v3_2) (funext fun a => Fin.ext ?_)
  have e := off1_1 t
  match a with
  | ⟨0, _⟩ => exact ((win1_1.rect_emb_val t j 0).trans (by rw [e.1]; all_goals exact Nat.zero_add _)).trans h0.symm
  | ⟨1, _⟩ => exact ((win1_1.rect_emb_val t j 1).trans (by rw [e.2]; all_goals exact Nat.zero_add _)).trans h1.symm
theorem blk2_0 (t : Fin grid2.N) (j : S1024x8192.Idx) (i : S12288x8192.Idx)
    (h0 : (i 0).val = t.val % 12 * 1024 + (j 0).val) (h1 : (i 1).val = (j 1).val) :
    iblk2 V c 0 t j = V c main_v1 i := by
  show V c main_v1 ((win2_0.rect t).emb j) = V c main_v1 i
  refine congrArg (V c main_v1) (funext fun a => Fin.ext ?_)
  have e := off2_0 t
  match a with
  | ⟨0, _⟩ => exact ((win2_0.rect_emb_val t j 0).trans (by rw [e.1]; all_goals exact Nat.zero_add _)).trans h0.symm
  | ⟨1, _⟩ => exact ((win2_0.rect_emb_val t j 1).trans (by rw [e.2]; all_goals exact Nat.zero_add _)).trans h1.symm
theorem blk2_1 (t : Fin grid2.N) (j : S512x8192.Idx) (i : S4096x8192.Idx)
    (h0 : (i 0).val = t.val / 12 * 512 + (j 0).val) (h1 : (i 1).val = (j 1).val) :
    iblk2 V c 1 t j = V c main_v3_2 i := by
  show V c main_v3_2 ((win2_1.rect t).emb j) = V c main_v3_2 i
  refine congrArg (V c main_v3_2) (funext fun a => Fin.ext ?_)
  have e := off2_1 t
  match a with
  | ⟨0, _⟩ => exact ((win2_1.rect_emb_val t j 0).trans (by rw [e.1]; all_goals exact Nat.zero_add _)).trans h0.symm
  | ⟨1, _⟩ => exact ((win2_1.rect_emb_val t j 1).trans (by rw [e.2]; all_goals exact Nat.zero_add _)).trans h1.symm

/-! ## The output blocks tile their arrays -/

theorem ext0_4 : ∀ t : Fin grid0.N, win0_4.xsize (grid0.coords t) 0 = 512 ∧ win0_4.xsize (grid0.coords t) 1 = 512 := by
  decide +kernel

/-- Element `j` of point `t`'s block is this element of the array. -/
theorem emb0_4 (t : Fin grid0.N) (a : Fin 512) (b : Fin 512) :
    ∃ (h0 : t.val / 16 * 512 + a.val < 4096) (h1 : t.val % 16 * 512 + b.val < 8192),
      (win0_4.rect t).emb (ix2 a b : S512x512.Idx) = (ix2 ⟨t.val / 16 * 512 + a.val, h0⟩ ⟨t.val % 16 * 512 + b.val, h1⟩ : S4096x8192.Idx) := by
  have ht : t.val < 128 := t.isLt
  have e := off0_4 t
  refine ⟨by omega, by omega, funext fun x => Fin.ext ?_⟩
  match x with
  | ⟨0, _⟩ => exact (win0_4.rect_emb_val t (ix2 a b : S512x512.Idx) 0).trans (by rw [e.1]; rfl)
  | ⟨1, _⟩ => exact (win0_4.rect_emb_val t (ix2 a b : S512x512.Idx) 1).trans (by rw [e.2]; rfl)

theorem cover0_4 (i : S4096x8192.Idx) :
    ∃ t : Fin cfg0.N, (cfg0.win 4).flush t = true ∧ i ∈ ((cfg0.win 4).blk t).view.set := by
  have h0 : (i 0).val < 4096 := (i 0).isLt
  have h1 : (i 1).val < 8192 := (i 1).isLt
  have ht : (i 0).val / 512 * 16 + (i 1).val / 512 < grid0.N := by show _ < 128; omega
  refine ⟨⟨(i 0).val / 512 * 16 + (i 1).val / 512, ht⟩, flush0_4 _, ?_⟩
  show i ∈ ((View.whole main_v3_0).slice (win0_4.rect ⟨(i 0).val / 512 * 16 + (i 1).val / 512, ht⟩)).set
  rw [View.set_slice_whole, Rect.mem_set_unit]
  have e := off0_4 ⟨(i 0).val / 512 * 16 + (i 1).val / 512, ht⟩
  have x := ext0_4 ⟨(i 0).val / 512 * 16 + (i 1).val / 512, ht⟩
  intro a
  match a with
  | ⟨0, _⟩ =>
    show win0_4.index _ 0 * win0_4.size 0 ≤ (i 0).val ∧ (i 0).val < win0_4.index _ 0 * win0_4.size 0 + win0_4.xsize (grid0.coords _) 0
    rw [e.1, x.1]; dsimp only; omega
  | ⟨1, _⟩ =>
    show win0_4.index _ 1 * win0_4.size 1 ≤ (i 1).val ∧ (i 1).val < win0_4.index _ 1 * win0_4.size 1 + win0_4.xsize (grid0.coords _) 1
    rw [e.2, x.2]; dsimp only; omega

theorem ext0_5 : ∀ t : Fin grid0.N, win0_5.xsize (grid0.coords t) 0 = 512 ∧ win0_5.xsize (grid0.coords t) 1 = 512 := by
  decide +kernel

/-- Element `j` of point `t`'s block is this element of the array. -/
theorem emb0_5 (t : Fin grid0.N) (a : Fin 512) (b : Fin 512) :
    ∃ (h0 : t.val / 16 * 512 + a.val < 4096) (h1 : t.val % 16 * 512 + b.val < 8192),
      (win0_5.rect t).emb (ix2 a b : S512x512.Idx) = (ix2 ⟨t.val / 16 * 512 + a.val, h0⟩ ⟨t.val % 16 * 512 + b.val, h1⟩ : S4096x8192.Idx) := by
  have ht : t.val < 128 := t.isLt
  have e := off0_5 t
  refine ⟨by omega, by omega, funext fun x => Fin.ext ?_⟩
  match x with
  | ⟨0, _⟩ => exact (win0_5.rect_emb_val t (ix2 a b : S512x512.Idx) 0).trans (by rw [e.1]; rfl)
  | ⟨1, _⟩ => exact (win0_5.rect_emb_val t (ix2 a b : S512x512.Idx) 1).trans (by rw [e.2]; rfl)

theorem cover0_5 (i : S4096x8192.Idx) :
    ∃ t : Fin cfg0.N, (cfg0.win 5).flush t = true ∧ i ∈ ((cfg0.win 5).blk t).view.set := by
  have h0 : (i 0).val < 4096 := (i 0).isLt
  have h1 : (i 1).val < 8192 := (i 1).isLt
  have ht : (i 0).val / 512 * 16 + (i 1).val / 512 < grid0.N := by show _ < 128; omega
  refine ⟨⟨(i 0).val / 512 * 16 + (i 1).val / 512, ht⟩, flush0_5 _, ?_⟩
  show i ∈ ((View.whole main_v3_1).slice (win0_5.rect ⟨(i 0).val / 512 * 16 + (i 1).val / 512, ht⟩)).set
  rw [View.set_slice_whole, Rect.mem_set_unit]
  have e := off0_5 ⟨(i 0).val / 512 * 16 + (i 1).val / 512, ht⟩
  have x := ext0_5 ⟨(i 0).val / 512 * 16 + (i 1).val / 512, ht⟩
  intro a
  match a with
  | ⟨0, _⟩ =>
    show win0_5.index _ 0 * win0_5.size 0 ≤ (i 0).val ∧ (i 0).val < win0_5.index _ 0 * win0_5.size 0 + win0_5.xsize (grid0.coords _) 0
    rw [e.1, x.1]; dsimp only; omega
  | ⟨1, _⟩ =>
    show win0_5.index _ 1 * win0_5.size 1 ≤ (i 1).val ∧ (i 1).val < win0_5.index _ 1 * win0_5.size 1 + win0_5.xsize (grid0.coords _) 1
    rw [e.2, x.2]; dsimp only; omega

theorem ext0_6 : ∀ t : Fin grid0.N, win0_6.xsize (grid0.coords t) 0 = 512 ∧ win0_6.xsize (grid0.coords t) 1 = 512 := by
  decide +kernel

/-- Element `j` of point `t`'s block is this element of the array. -/
theorem emb0_6 (t : Fin grid0.N) (a : Fin 512) (b : Fin 512) :
    ∃ (h0 : t.val / 16 * 512 + a.val < 4096) (h1 : t.val % 16 * 512 + b.val < 8192),
      (win0_6.rect t).emb (ix2 a b : S512x512.Idx) = (ix2 ⟨t.val / 16 * 512 + a.val, h0⟩ ⟨t.val % 16 * 512 + b.val, h1⟩ : S4096x8192.Idx) := by
  have ht : t.val < 128 := t.isLt
  have e := off0_6 t
  refine ⟨by omega, by omega, funext fun x => Fin.ext ?_⟩
  match x with
  | ⟨0, _⟩ => exact (win0_6.rect_emb_val t (ix2 a b : S512x512.Idx) 0).trans (by rw [e.1]; rfl)
  | ⟨1, _⟩ => exact (win0_6.rect_emb_val t (ix2 a b : S512x512.Idx) 1).trans (by rw [e.2]; rfl)

theorem cover0_6 (i : S4096x8192.Idx) :
    ∃ t : Fin cfg0.N, (cfg0.win 6).flush t = true ∧ i ∈ ((cfg0.win 6).blk t).view.set := by
  have h0 : (i 0).val < 4096 := (i 0).isLt
  have h1 : (i 1).val < 8192 := (i 1).isLt
  have ht : (i 0).val / 512 * 16 + (i 1).val / 512 < grid0.N := by show _ < 128; omega
  refine ⟨⟨(i 0).val / 512 * 16 + (i 1).val / 512, ht⟩, flush0_6 _, ?_⟩
  show i ∈ ((View.whole main_v3_2).slice (win0_6.rect ⟨(i 0).val / 512 * 16 + (i 1).val / 512, ht⟩)).set
  rw [View.set_slice_whole, Rect.mem_set_unit]
  have e := off0_6 ⟨(i 0).val / 512 * 16 + (i 1).val / 512, ht⟩
  have x := ext0_6 ⟨(i 0).val / 512 * 16 + (i 1).val / 512, ht⟩
  intro a
  match a with
  | ⟨0, _⟩ =>
    show win0_6.index _ 0 * win0_6.size 0 ≤ (i 0).val ∧ (i 0).val < win0_6.index _ 0 * win0_6.size 0 + win0_6.xsize (grid0.coords _) 0
    rw [e.1, x.1]; dsimp only; omega
  | ⟨1, _⟩ =>
    show win0_6.index _ 1 * win0_6.size 1 ≤ (i 1).val ∧ (i 1).val < win0_6.index _ 1 * win0_6.size 1 + win0_6.xsize (grid0.coords _) 1
    rw [e.2, x.2]; dsimp only; omega

theorem ext1_2 : ∀ t : Fin grid1.N, win1_2.xsize (grid1.coords t) 0 = 1024 ∧ win1_2.xsize (grid1.coords t) 1 = 1024 := by
  decide +kernel

/-- Element `j` of point `t`'s block is this element of the array. -/
theorem emb1_2 (t : Fin grid1.N) (a : Fin 1024) (b : Fin 1024) :
    ∃ (h0 : t.val % 12 * 1024 + a.val < 12288) (h1 : t.val / 12 * 1024 + b.val < 8192),
      (win1_2.rect t).emb (ix2 a b : S1024x1024.Idx) = (ix2 ⟨t.val % 12 * 1024 + a.val, h0⟩ ⟨t.val / 12 * 1024 + b.val, h1⟩ : S12288x8192.Idx) := by
  have ht : t.val < 96 := t.isLt
  have e := off1_2 t
  refine ⟨by omega, by omega, funext fun x => Fin.ext ?_⟩
  match x with
  | ⟨0, _⟩ => exact (win1_2.rect_emb_val t (ix2 a b : S1024x1024.Idx) 0).trans (by rw [e.1]; rfl)
  | ⟨1, _⟩ => exact (win1_2.rect_emb_val t (ix2 a b : S1024x1024.Idx) 1).trans (by rw [e.2]; rfl)

theorem cover1_2 (i : S12288x8192.Idx) :
    ∃ t : Fin cfg1.N, (cfg1.win 2).flush t = true ∧ i ∈ ((cfg1.win 2).blk t).view.set := by
  have h0 : (i 0).val < 12288 := (i 0).isLt
  have h1 : (i 1).val < 8192 := (i 1).isLt
  have ht : (i 1).val / 1024 * 12 + (i 0).val / 1024 < grid1.N := by show _ < 96; omega
  refine ⟨⟨(i 1).val / 1024 * 12 + (i 0).val / 1024, ht⟩, flush1_2 _, ?_⟩
  show i ∈ ((View.whole main_v4).slice (win1_2.rect ⟨(i 1).val / 1024 * 12 + (i 0).val / 1024, ht⟩)).set
  rw [View.set_slice_whole, Rect.mem_set_unit]
  have e := off1_2 ⟨(i 1).val / 1024 * 12 + (i 0).val / 1024, ht⟩
  have x := ext1_2 ⟨(i 1).val / 1024 * 12 + (i 0).val / 1024, ht⟩
  intro a
  match a with
  | ⟨0, _⟩ =>
    show win1_2.index _ 0 * win1_2.size 0 ≤ (i 0).val ∧ (i 0).val < win1_2.index _ 0 * win1_2.size 0 + win1_2.xsize (grid1.coords _) 0
    rw [e.1, x.1]; dsimp only; omega
  | ⟨1, _⟩ =>
    show win1_2.index _ 1 * win1_2.size 1 ≤ (i 1).val ∧ (i 1).val < win1_2.index _ 1 * win1_2.size 1 + win1_2.xsize (grid1.coords _) 1
    rw [e.2, x.2]; dsimp only; omega

theorem ext2_2 : ∀ t : Fin grid2.N, win2_2.xsize (grid2.coords t) 0 = 1024 ∧ win2_2.xsize (grid2.coords t) 1 = 512 := by
  decide +kernel

/-- Element `j` of point `t`'s block is this element of the array. -/
theorem emb2_2 (t : Fin grid2.N) (a : Fin 1024) (b : Fin 512) :
    ∃ (h0 : t.val % 12 * 1024 + a.val < 12288) (h1 : t.val / 12 * 512 + b.val < 4096),
      (win2_2.rect t).emb (ix2 a b : S1024x512.Idx) = (ix2 ⟨t.val % 12 * 1024 + a.val, h0⟩ ⟨t.val / 12 * 512 + b.val, h1⟩ : S12288x4096.Idx) := by
  have ht : t.val < 96 := t.isLt
  have e := off2_2 t
  refine ⟨by omega, by omega, funext fun x => Fin.ext ?_⟩
  match x with
  | ⟨0, _⟩ => exact (win2_2.rect_emb_val t (ix2 a b : S1024x512.Idx) 0).trans (by rw [e.1]; rfl)
  | ⟨1, _⟩ => exact (win2_2.rect_emb_val t (ix2 a b : S1024x512.Idx) 1).trans (by rw [e.2]; rfl)

theorem cover2_2 (i : S12288x4096.Idx) :
    ∃ t : Fin cfg2.N, (cfg2.win 2).flush t = true ∧ i ∈ ((cfg2.win 2).blk t).view.set := by
  have h0 : (i 0).val < 12288 := (i 0).isLt
  have h1 : (i 1).val < 4096 := (i 1).isLt
  have ht : (i 1).val / 512 * 12 + (i 0).val / 1024 < grid2.N := by show _ < 96; omega
  refine ⟨⟨(i 1).val / 512 * 12 + (i 0).val / 1024, ht⟩, flush2_2 _, ?_⟩
  show i ∈ ((View.whole main_v5).slice (win2_2.rect ⟨(i 1).val / 512 * 12 + (i 0).val / 1024, ht⟩)).set
  rw [View.set_slice_whole, Rect.mem_set_unit]
  have e := off2_2 ⟨(i 1).val / 512 * 12 + (i 0).val / 1024, ht⟩
  have x := ext2_2 ⟨(i 1).val / 512 * 12 + (i 0).val / 1024, ht⟩
  intro a
  match a with
  | ⟨0, _⟩ =>
    show win2_2.index _ 0 * win2_2.size 0 ≤ (i 0).val ∧ (i 0).val < win2_2.index _ 0 * win2_2.size 0 + win2_2.xsize (grid2.coords _) 0
    rw [e.1, x.1]; dsimp only; omega
  | ⟨1, _⟩ =>
    show win2_2.index _ 1 * win2_2.size 1 ≤ (i 1).val ∧ (i 1).val < win2_2.index _ 1 * win2_2.size 1 + win2_2.xsize (grid2.coords _) 1
    rw [e.2, x.2]; dsimp only; omega

/-! ## What each call leaves -/

theorem flushed0_5 (t : Fin cfg0.N) :
    (dat0 V c).flushed 5 t = (win0_5.blk t).view.read (Elt Ideal) (codes (V c main_arg1) (V c main_v2)) := by
  show (cfg0.win 5).cut (grid0.coords t) ((dat0 V c).after 5 t) = _
  rw [after0_5]
  unfold out0_5
  rw [View.canon_unit_zero hz, View.ld_unit_zero hz, View.ld_unit_zero hz]
  refine funext fun (j : S512x512.Idx) => ?_
  obtain ⟨a, b, rfl⟩ : ∃ (a : Fin 512) (b : Fin 512), j = ix2 a b := ⟨j 0, j 1, eq_ix2 j⟩
  obtain ⟨h0, h1, he⟩ := emb0_5 t a b
  refine (pay3_apply _ _ a b).trans (Eq.trans ?_ (congrArg (codes (V c main_arg1) (V c main_v2)) he).symm)
  rw [blk0_2 V c t (ix2 a b) (ix2 ⟨_, h0⟩ ⟨_, h1⟩) rfl rfl, blk0_3 V c t (ix2 0 b) (ix2 0 ⟨_, h1⟩) rfl rfl]
  rfl

theorem final0_5 : (dat0 V c).arrAt 5 cfg0.N = codes (V c main_arg1) (V c main_v2) :=
  (dat0 V c).arrAt_eq_of_cover 5 (codes (V c main_arg1) (V c main_v2)) (fun t _ => flushed0_5 V c t) cover0_5

theorem flushed0_6 (t : Fin cfg0.N) :
    (dat0 V c).flushed 6 t = (win0_6.blk t).view.read (Elt Ideal) (wq (V c main_arg1) (V c main_v2)) := by
  show (cfg0.win 6).cut (grid0.coords t) ((dat0 V c).after 6 t) = _
  rw [after0_6]
  unfold out0_6
  rw [View.canon_unit_zero hz, View.ld_unit_zero hz, View.ld_unit_zero hz]
  refine funext fun (j : S512x512.Idx) => ?_
  obtain ⟨a, b, rfl⟩ : ∃ (a : Fin 512) (b : Fin 512), j = ix2 a b := ⟨j 0, j 1, eq_ix2 j⟩
  obtain ⟨h0, h1, he⟩ := emb0_6 t a b
  refine (pay4_apply _ _ a b).trans (Eq.trans ?_ (congrArg (wq (V c main_arg1) (V c main_v2)) he).symm)
  rw [blk0_2 V c t (ix2 a b) (ix2 ⟨_, h0⟩ ⟨_, h1⟩) rfl rfl, blk0_3 V c t (ix2 0 b) (ix2 0 ⟨_, h1⟩) rfl rfl]
  rfl

theorem final0_6 : (dat0 V c).arrAt 6 cfg0.N = wq (V c main_arg1) (V c main_v2) :=
  (dat0 V c).arrAt_eq_of_cover 6 (wq (V c main_arg1) (V c main_v2)) (fun t _ => flushed0_6 V c t) cover0_6

theorem flushed0_4 (t : Fin cfg0.N) :
    (dat0 V c).flushed 4 t = (win0_4.blk t).view.read (Elt Ideal) (dw (V c main_arg1) (V c main_v2) (V c main_v0) (V c main_v1)) := by
  show (cfg0.win 4).cut (grid0.coords t) ((dat0 V c).after 4 t) = _
  rw [after0_4]
  unfold out0_4
  rw [View.canon_unit_zero hz, View.ld_unit_zero hz, View.ld_unit_zero hz, View.ld_unit_zero hz, View.ld_unit_zero hz]
  refine funext fun (j : S512x512.Idx) => ?_
  obtain ⟨a, b, rfl⟩ : ∃ (a : Fin 512) (b : Fin 512), j = ix2 a b := ⟨j 0, j 1, eq_ix2 j⟩
  obtain ⟨h0, h1, he⟩ := emb0_4 t a b
  refine (pay5_apply _ _ _ _ a b).trans (Eq.trans ?_ (congrArg (dw (V c main_arg1) (V c main_v2) (V c main_v0) (V c main_v1)) he).symm)
  rw [blk0_2 V c t (ix2 a b) (ix2 ⟨_, h0⟩ ⟨_, h1⟩) rfl rfl, blk0_3 V c t (ix2 0 b) (ix2 0 ⟨_, h1⟩) rfl rfl]
  refine congrArg (masked _ _) (Finset.sum_congr rfl fun n _ => ?_)
  rw [blk0_0 V c t (ix2 n a) (ix2 n ⟨_, h0⟩) rfl rfl, blk0_1 V c t (ix2 n b) (ix2 n ⟨_, h1⟩) rfl rfl]
  rfl

theorem final0_4 : (dat0 V c).arrAt 4 cfg0.N = dw (V c main_arg1) (V c main_v2) (V c main_v0) (V c main_v1) :=
  (dat0 V c).arrAt_eq_of_cover 4 (dw (V c main_arg1) (V c main_v2) (V c main_v0) (V c main_v1)) (fun t _ => flushed0_4 V c t) cover0_4

theorem flushed1_2 (t : Fin cfg1.N) :
    (dat1 V c).flushed 2 t = (win1_2.blk t).view.read (Elt Ideal) (y (V c main_v0) (V c main_v3_2)) := by
  show (cfg1.win 2).cut (grid1.coords t) ((dat1 V c).after 2 t) = _
  rw [after1_2]
  unfold out1_2
  rw [View.canon_unit_zero hz, View.ld_unit_zero hz, View.ld_unit_zero hz]
  refine funext fun (j : S1024x1024.Idx) => ?_
  obtain ⟨a, b, rfl⟩ : ∃ (a : Fin 1024) (b : Fin 1024), j = ix2 a b := ⟨j 0, j 1, eq_ix2 j⟩
  obtain ⟨h0, h1, he⟩ := emb1_2 t a b
  refine (k1_pay1_apply _ _ a b).trans (Eq.trans ?_ (congrArg (y (V c main_v0) (V c main_v3_2)) he).symm)
  refine Finset.sum_congr rfl fun k _ => ?_
  rw [blk1_0 V c t (ix2 a k) (ix2 ⟨_, h0⟩ k) rfl rfl, blk1_1 V c t (ix2 k b) (ix2 k ⟨_, h1⟩) rfl rfl]
  rfl

theorem final1_2 : (dat1 V c).arrAt 2 cfg1.N = y (V c main_v0) (V c main_v3_2) :=
  (dat1 V c).arrAt_eq_of_cover 2 (y (V c main_v0) (V c main_v3_2)) (fun t _ => flushed1_2 V c t) cover1_2

theorem flushed2_2 (t : Fin cfg2.N) :
    (dat2 V c).flushed 2 t = (win2_2.blk t).view.read (Elt Ideal) (dx (V c main_v1) (V c main_v3_2)) := by
  show (cfg2.win 2).cut (grid2.coords t) ((dat2 V c).after 2 t) = _
  rw [after2_2]
  unfold out2_2
  rw [View.canon_unit_zero hz, View.ld_unit_zero hz, View.ld_unit_zero hz]
  refine funext fun (j : S1024x512.Idx) => ?_
  obtain ⟨a, b, rfl⟩ : ∃ (a : Fin 1024) (b : Fin 512), j = ix2 a b := ⟨j 0, j 1, eq_ix2 j⟩
  obtain ⟨h0, h1, he⟩ := emb2_2 t a b
  refine (k2_pay1_apply _ _ a b).trans (Eq.trans ?_ (congrArg (dx (V c main_v1) (V c main_v3_2)) he).symm)
  refine Finset.sum_congr rfl fun k _ => ?_
  rw [blk2_0 V c t (ix2 a k) (ix2 ⟨_, h0⟩ k) rfl rfl, blk2_1 V c t (ix2 b k) (ix2 ⟨_, h1⟩ k) rfl rfl]
  rfl

theorem final2_2 : (dat2 V c).arrAt 2 cfg2.N = dx (V c main_v1) (V c main_v3_2) :=
  (dat2 V c).arrAt_eq_of_cover 2 (dx (V c main_v1) (V c main_v3_2)) (fun t _ => flushed2_2 V c t) cover2_2

end Cert.KernelIdeal.Blocks

end
-- ==== Proof.RefQuant.lean ====
/-
  What the reference's quantiser leaves, over the extended reals.

  The quantiser is one kernel call without a grid: one point, whose blocks are the whole arrays. Its two output arrays end
  holding the clipped quotient of the weights by the scales and that quotient times the scale again, the same
  whole-array functions the idealized kernel's first call leaves block by block.
-/
module

public import proofs.«01_k».proof.Proof.Gen.ReferenceIdeal.Run
public import proofs.«01_k».proof.Proof.KernelBlocks
public import Idealize.ShloMosaic.Lib.Pipeline.Value
public import Idealize.ShloMosaic.Lib.Pointwise

@[expose] public section

set_option maxRecDepth 16384

noncomputable section

namespace Cert.ReferenceIdeal.Quant

open Cert.ReferenceIdeal Cert.ReferenceIdeal.Gen
open Cert.KernelIdeal.Blocks (code codes wq)
open Idealize.ShloMosaic Idealize.ShloMosaic.TcCoe
open Idealize.SL.Sem
open Idealize.ShloMosaic.Pipeline (Dat)

/-! ## The body's stored values at an index -/

theorem pay2_apply (w : Vec Ideal S4096x8192 .f32) (s : Vec Ideal S1x8192 .f32) (a : Fin 4096) (b : Fin 8192) :
    k0_pay2 w s (ix2 a b) = code (w (ix2 a b)) (s (ix2 0 b)) := by
  pointwise [Gen.k0_pay2, Gen.k0_pay1, code]

theorem pay3_apply (w : Vec Ideal S4096x8192 .f32) (s : Vec Ideal S1x8192 .f32) (a : Fin 4096) (b : Fin 8192) :
    k0_pay3 w s (ix2 a b) = code (w (ix2 a b)) (s (ix2 0 b)) * s (ix2 0 b) := by
  pointwise [Gen.k0_pay3, Gen.k0_pay2, Gen.k0_pay1, code]

theorem hz : (![0, 0] : Fin 2 → Nat) = fun _ => 0 := funext fun a => by fin_cases a <;> rfl

/-! ## The one point's blocks are the whole arrays -/

theorem idx0 : ∀ t : Fin grid0.N, ∀ a, win0_0.index t a = 0 := by decide +kernel
theorem idx1 : ∀ t : Fin grid0.N, ∀ a, win0_1.index t a = 0 := by decide +kernel
theorem idx2 : ∀ t : Fin grid0.N, ∀ a, win0_2.index t a = 0 := by decide +kernel
theorem idx3 : ∀ t : Fin grid0.N, ∀ a, win0_3.index t a = 0 := by decide +kernel
theorem ext2 : ∀ t : Fin grid0.N, win0_2.xsize (grid0.coords t) 0 = 4096 ∧ win0_2.xsize (grid0.coords t) 1 = 8192 := by decide +kernel
theorem ext3 : ∀ t : Fin grid0.N, win0_3.xsize (grid0.coords t) 0 = 4096 ∧ win0_3.xsize (grid0.coords t) 1 = 8192 := by decide +kernel

variable (m : (ℓ : Loc nD τ sig) → Buf (Elt Ideal) ℓ) (c : Dev nD)

theorem blk0 (t : Fin cfg0.N) (j : S4096x8192.Idx) : iblk m c 0 t j = V m c main_arg1 j := by
  show V m c main_arg1 ((win0_0.rect t).emb j) = V m c main_arg1 j
  exact congrArg (V m c main_arg1) (funext fun a => Fin.ext (win0_0.rect_emb_val_of_index_zero t a (idx0 t a) j))
theorem blk1 (t : Fin cfg0.N) (j : S1x8192.Idx) : iblk m c 1 t j = V m c main_v0 j := by
  show V m c main_v0 ((win0_1.rect t).emb j) = V m c main_v0 j
  exact congrArg (V m c main_v0) (funext fun a => Fin.ext (win0_1.rect_emb_val_of_index_zero t a (idx1 t a) j))
theorem emb2 (t : Fin grid0.N) (j : S4096x8192.Idx) : (win0_2.rect t).emb j = j :=
  funext fun a => Fin.ext (win0_2.rect_emb_val_of_index_zero t a (idx2 t a) j)
theorem emb3 (t : Fin grid0.N) (j : S4096x8192.Idx) : (win0_3.rect t).emb j = j :=
  funext fun a => Fin.ext (win0_3.rect_emb_val_of_index_zero t a (idx3 t a) j)

theorem flushed2 (t : Fin cfg0.N) :
    (dats m 0 c).flushed 2 t = (win0_2.blk t).view.read (Elt Ideal) (codes (V m c main_arg1) (V m c main_v0)) := by
  show (cfg0.win 2).cut (grid0.coords t) ((dats m 0 c).after 2 t) = _
  rw [after0_2]
  unfold out0_2
  rw [View.canon_unit_zero hz, View.ld_unit_zero hz, View.ld_unit_zero hz]
  refine funext fun (j : S4096x8192.Idx) => ?_
  obtain ⟨a, b, rfl⟩ : ∃ (a : Fin 4096) (b : Fin 8192), j = ix2 a b := ⟨j 0, j 1, eq_ix2 j⟩
  refine (pay2_apply _ _ a b).trans (Eq.trans ?_ (congrArg (codes (V m c main_arg1) (V m c main_v0)) (emb2 t (ix2 a b))).symm)
  rw [blk0, blk1]
  rfl

theorem flushed3 (t : Fin cfg0.N) :
    (dats m 0 c).flushed 3 t = (win0_3.blk t).view.read (Elt Ideal) (wq (V m c main_arg1) (V m c main_v0)) := by
  show (cfg0.win 3).cut (grid0.coords t) ((dats m 0 c).after 3 t) = _
  rw [after0_3]
  unfold out0_3
  rw [View.canon_unit_zero hz, View.ld_unit_zero hz, View.ld_unit_zero hz]
  refine funext fun (j : S4096x8192.Idx) => ?_
  obtain ⟨a, b, rfl⟩ : ∃ (a : Fin 4096) (b : Fin 8192), j = ix2 a b := ⟨j 0, j 1, eq_ix2 j⟩
  refine (pay3_apply _ _ a b).trans (Eq.trans ?_ (congrArg (wq (V m c main_arg1) (V m c main_v0)) (emb3 t (ix2 a b))).symm)
  rw [blk0, blk1]
  rfl

theorem cover2 (i : S4096x8192.Idx) :
    ∃ t : Fin cfg0.N, (cfg0.win 2).flush t = true ∧ i ∈ ((cfg0.win 2).blk t).view.set := by
  have h0 : (i 0).val < 4096 := (i 0).isLt
  have h1 : (i 1).val < 8192 := (i 1).isLt
  have ht : 0 < grid0.N := by decide
  refine ⟨⟨0, ht⟩, flush0_2 _, ?_⟩
  show i ∈ ((View.whole main_v1_0).slice (win0_2.rect ⟨0, ht⟩)).set
  rw [View.set_slice_whole, Rect.mem_set_unit]
  have x := ext2 ⟨0, ht⟩
  intro a
  match a with
  | ⟨0, _⟩ =>
    show win0_2.index _ 0 * win0_2.size 0 ≤ (i 0).val ∧ (i 0).val < win0_2.index _ 0 * win0_2.size 0 + win0_2.xsize (grid0.coords _) 0
    rw [idx2 _ 0, x.1]; omega
  | ⟨1, _⟩ =>
    show win0_2.index _ 1 * win0_2.size 1 ≤ (i 1).val ∧ (i 1).val < win0_2.index _ 1 * win0_2.size 1 + win0_2.xsize (grid0.coords _) 1
    rw [idx2 _ 1, x.2]; omega

theorem cover3 (i : S4096x8192.Idx) :
    ∃ t : Fin cfg0.N, (cfg0.win 3).flush t = true ∧ i ∈ ((cfg0.win 3).blk t).view.set := by
  have h0 : (i 0).val < 4096 := (i 0).isLt
  have h1 : (i 1).val < 8192 := (i 1).isLt
  have ht : 0 < grid0.N := by decide
  refine ⟨⟨0, ht⟩, flush0_3 _, ?_⟩
  show i ∈ ((View.whole main_v1_1).slice (win0_3.rect ⟨0, ht⟩)).set
  rw [View.set_slice_whole, Rect.mem_set_unit]
  have x := ext3 ⟨0, ht⟩
  intro a
  match a with
  | ⟨0, _⟩ =>
    show win0_3.index _ 0 * win0_3.size 0 ≤ (i 0).val ∧ (i 0).val < win0_3.index _ 0 * win0_3.size 0 + win0_3.xsize (grid0.coords _) 0
    rw [idx3 _ 0, x.1]; omega
  | ⟨1, _⟩ =>
    show win0_3.index _ 1 * win0_3.size 1 ≤ (i 1).val ∧ (i 1).val < win0_3.index _ 1 * win0_3.size 1 + win0_3.xsize (grid0.coords _) 1
    rw [idx3 _ 1, x.2]; omega

/-! ## What the quantiser is entered with, and what it leaves -/

/-- The scale row the quantiser reads is argument 2, broadcast to one row. -/
theorem V_s : V m c main_v0
    = broadcastInDim S1x8192 ![1] bcast_S8192_S1x8192_1 (m ((c.tc : Thread nD τ).loc main_arg2)) := by
  show StableHlo.after (List.flatten [hostOps0]) (fun b => m (c, b)) (Proc.devRef .tc main_v0) = _
  simp only [hostOps0, List.flatten_cons, List.flatten_nil, List.append_nil]
  after_results

theorem reg_codes : Value.reg_main_v1_0 m c
    = codes (m ((c.tc : Thread nD τ).loc main_arg1))
        (broadcastInDim S1x8192 ![1] bcast_S8192_S1x8192_1 (m ((c.tc : Thread nD τ).loc main_arg2))) := by
  have h := (dats m 0 c).arrAt_eq_of_cover 2 (codes (V m c main_arg1) (V m c main_v0)) (fun t _ => flushed2 m c t) cover2
  rw [V_s, V_main_arg1] at h
  exact h

theorem reg_wq : Value.reg_main_v1_1 m c
    = wq (m ((c.tc : Thread nD τ).loc main_arg1))
        (broadcastInDim S1x8192 ![1] bcast_S8192_S1x8192_1 (m ((c.tc : Thread nD τ).loc main_arg2))) := by
  have h := (dats m 0 c).arrAt_eq_of_cover 3 (wq (V m c main_arg1) (V m c main_v0)) (fun t _ => flushed3 m c t) cover3
  rw [V_s, V_main_arg1] at h
  exact h

end Cert.ReferenceIdeal.Quant

end
-- ==== Proof.Equation.lean ====
/-
  The value equations, over the extended reals: what the reference's host operations compute on the three-axis arrays is
  what the idealized kernel's calls compute on the arrays with batch and sequence merged into one axis of rows.

  Merging and splitting axes is the row-major reading of the same elements, so for the forward product and the input
  gradient both sides are the same sum at every index. For the weight gradient the reference sums over batch and
  sequence and the kernel over the 12288 merged rows: the same terms, reindexed by row = batch · 6144 + sequence.
  Addition on the extended reals is commutative and associative, so no finiteness is asked.
-/
module

public import proofs.«01_k».proof.Proof.KernelBlocks
public import proofs.«01_k».proof.Proof.Gen.ReferenceIdeal.Run
public import Idealize.ShloMosaic.Lib.Pointwise

@[expose] public section

set_option maxRecDepth 16384

noncomputable section

namespace Cert.Equation

open Cert.ReferenceIdeal Cert.ReferenceIdeal.Gen
open Cert.KernelIdeal (S12288x4096 S12288x8192)
open Cert.KernelIdeal.Gen (shapeCasts_S2x6144x4096_S12288x4096 shapeCasts_S2x6144x8192_S12288x8192
  shapeCasts_S8192_S1x8192 shapeCasts_S12288x8192_S2x6144x8192 shapeCasts_S12288x4096_S2x6144x4096)
open Cert.KernelIdeal.Blocks
open Idealize.ShloMosaic

/-- One row of scales, whether reshaped or broadcast from the vector. -/
theorem row_eq (s : Vec Ideal S8192 .f32) :
    shapeCast S1x8192 s shapeCasts_S8192_S1x8192 = broadcastInDim S1x8192 ![1] bcast_S8192_S1x8192_1 s := by
  funext j
  idx_vars j
  pointwise

/-- The forward product. -/
theorem y_eq (x : Vec Ideal S2x6144x4096 .bf16) (q : Vec Ideal S4096x8192 .bf16) :
    shapeCast S2x6144x8192 (y (shapeCast S12288x4096 x shapeCasts_S2x6144x4096_S12288x4096) q) shapeCasts_S12288x8192_S2x6144x8192
      = truncf (F := Ideal) .bf16 (Host.dotGeneral (F := Ideal) (φ₁ := .bf16) (φ₂ := .bf16) dot_S2x6144x4096_S4096x8192_S2x6144x8192_2_0_01_1_n_n none x q) bitsLt_bf16_f32 := by
  funext j
  idx_vars j
  pointwise [y]

/-- The input gradient. -/
theorem dx_eq (g : Vec Ideal S2x6144x8192 .bf16) (q : Vec Ideal S4096x8192 .bf16) :
    shapeCast S2x6144x4096 (dx (shapeCast S12288x8192 g shapeCasts_S2x6144x8192_S12288x8192) q) shapeCasts_S12288x4096_S2x6144x4096
      = truncf (F := Ideal) .bf16 (Host.dotGeneral (F := Ideal) (φ₁ := .bf16) (φ₂ := .bf16) dot_S2x6144x8192_S4096x8192_S2x6144x4096_2_1_01_0_n_n none g q) bitsLt_bf16_f32 := by
  funext j
  idx_vars j
  pointwise [dx]

/-- A sum over the merged rows, each read at its batch and its position, is the sum over batches and positions. -/
theorem sum_rows (f : Fin 2 → Fin 6144 → EReal) :
    ∑ n : Fin 12288, f ⟨n.val / 6144, by omega⟩ ⟨n.val % 6144, by omega⟩ = ∑ b : Fin 2, ∑ t : Fin 6144, f b t := by
  rw [← Fintype.sum_prod_type' f]
  exact Fintype.sum_equiv (finProdFinEquiv (m := 2) (n := 6144)).symm
    (fun n : Fin 12288 => f ⟨n.val / 6144, by omega⟩ ⟨n.val % 6144, by omega⟩) (fun p => f p.1 p.2) fun n => rfl

/-- The weight gradient. -/
theorem dw_eq (w : Vec Ideal S4096x8192 .f32) (s : Vec Ideal S8192 .f32) (x : Vec Ideal S2x6144x4096 .bf16) (g : Vec Ideal S2x6144x8192 .bf16) :
    dw w (shapeCast S1x8192 s shapeCasts_S8192_S1x8192) (shapeCast S12288x4096 x shapeCasts_S2x6144x4096_S12288x4096)
        (shapeCast S12288x8192 g shapeCasts_S2x6144x8192_S12288x8192)
      = select (cmpf (F := Ideal) .ole (mulf (Host.absf (F := Ideal) w) (broadcastInDim S4096x8192 ![0, 1] bcast_S1x8192_S4096x8192_0_1 (broadcastInDim S1x8192 ![1] bcast_S8192_S1x8192_1 (Host.divf (F := Ideal) (broadcastInDim S8192 ![] bcast_S_S8192 (constant (F := Ideal) S_ .f32 0x3F800000#32)) s)))) (broadcastInDim S4096x8192 ![] bcast_S_S4096x8192 (constant (F := Ideal) S_ .f32 0x43E00000#32))) (Host.dotGeneral (F := Ideal) (φ₁ := .bf16) (φ₂ := .bf16) dot_S2x6144x4096_S2x6144x8192_S4096x8192_01_01_2_2_n_n none x g : FVec Ideal S4096x8192 .f32) (broadcastInDim S4096x8192 ![] bcast_S_S4096x8192 (id (constant (F := Ideal) S_ .f32 0x00000000#32))) := by
  funext j
  idx_vars j
  pointwise [dw, masked]
  rw [sum_rows fun b t => x (ix3 b t j0) * g (ix3 b t j1)]
  rw [show id (constant (F := Ideal) S_ .f32 0x00000000#32) ix0 = 0 from Ideal.ofBits_zero_f32]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.KernelRun
public import proofs.«01_k».proof.Proof.KernelBlocks
public import proofs.«01_k».proof.Proof.RefQuant
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

section Value

variable (m : (ℓ : Loc KernelIdeal.nD KernelIdeal.τ KernelIdeal.sig) → Buf (Elt Ideal) ℓ)
    (g : Dev KernelIdeal.nD → PrngReg) (c : Dev KernelIdeal.nD)

open Cert.KernelIdeal Cert.KernelIdeal.Gen Cert.KernelIdeal.WholeRun Cert.KernelIdeal.Blocks

/-- The dequantised weights both later calls read, in the arguments. -/
theorem kernel_wq : (dat0 (V1 m g) c).arrAt 6 cfg0.N
    = wq (m ((c.tc : Thread nD τ).loc main_arg1))
        (shapeCast S1x8192 (m ((c.tc : Thread nD τ).loc main_arg2)) shapeCasts_S8192_S1x8192) := by
  rw [final0_6, V1_w, V1_s]

/-- The forward product, in the arguments. -/
theorem kernel_y : (dat1 (V2 m g) c).arrAt 2 cfg1.N
    = y (shapeCast S12288x4096 (m ((c.tc : Thread nD τ).loc main_arg0)) shapeCasts_S2x6144x4096_S12288x4096)
        (wq (m ((c.tc : Thread nD τ).loc main_arg1))
          (shapeCast S1x8192 (m ((c.tc : Thread nD τ).loc main_arg2)) shapeCasts_S8192_S1x8192)) := by
  rw [final1_2, V2_x, V1_x, V2_wq, kernel_wq]

/-- The input gradient, in the arguments. -/
theorem kernel_dx : (dat2 (V3 m g) c).arrAt 2 cfg2.N
    = dx (shapeCast S12288x8192 (m ((c.tc : Thread nD τ).loc main_arg3)) shapeCasts_S2x6144x8192_S12288x8192)
        (wq (m ((c.tc : Thread nD τ).loc main_arg1))
          (shapeCast S1x8192 (m ((c.tc : Thread nD τ).loc main_arg2)) shapeCasts_S8192_S1x8192)) := by
  rw [final2_2, V3_g, V1_g, V3_wq, kernel_wq]

/-- The weight gradient, in the arguments. -/
theorem kernel_dw : (dat0 (V1 m g) c).arrAt 4 cfg0.N
    = dw (m ((c.tc : Thread nD τ).loc main_arg1))
        (shapeCast S1x8192 (m ((c.tc : Thread nD τ).loc main_arg2)) shapeCasts_S8192_S1x8192)
        (shapeCast S12288x4096 (m ((c.tc : Thread nD τ).loc main_arg0)) shapeCasts_S2x6144x4096_S12288x4096)
        (shapeCast S12288x8192 (m ((c.tc : Thread nD τ).loc main_arg3)) shapeCasts_S2x6144x8192_S12288x8192) := by
  rw [final0_4, V1_w, V1_s, V1_x, V1_g]

/-- The codes, in the arguments. -/
theorem kernel_codes : (dat0 (V1 m g) c).arrAt 5 cfg0.N
    = codes (m ((c.tc : Thread nD τ).loc main_arg1))
        (shapeCast S1x8192 (m ((c.tc : Thread nD τ).loc main_arg2)) shapeCasts_S8192_S1x8192) := by
  rw [final0_5, V1_w, V1_s]

end Value

/-- The value claim: from arguments that agree, the idealized kernel and the reference end with equal results, all four. -/
theorem algebraic : Cert.algebraic_KernelIdeal_ReferenceIdeal := by
  intro m g m' g' _ hargs
  refine ⟨_, _, _, _, Cert.KernelIdeal.WholeRun.run_regions m g, (θ_run _ _ _).mono (fun r h c => ?_) (Cert.ReferenceIdeal.Value.run m' g')⟩
  obtain ⟨hy, hdx, hdw, hc, h0, h1, h2, h3⟩ := h c
  obtain ⟨a0, a1, a2, a3⟩ := hargs c
  refine ⟨hy.trans ?_, hdx.trans ?_, hdw.trans ?_, hc.trans ?_, h0, h1, h2, h3⟩
  · rw [kernel_y, Cert.ReferenceIdeal.Quant.reg_wq, a0, a1, a2]
    refine (Cert.Equation.y_eq _ _).symm.trans ?_
    rw [← Cert.Equation.row_eq]
  · rw [kernel_dx, Cert.ReferenceIdeal.Quant.reg_wq, a1, a2, a3]
    refine (Cert.Equation.dx_eq _ _).symm.trans ?_
    rw [← Cert.Equation.row_eq]
  · rw [kernel_dw, a0, a1, a2, a3]
    exact (Cert.Equation.dw_eq _ _ _ _).symm
  · rw [kernel_codes, Cert.ReferenceIdeal.Quant.reg_codes, a1, a2]
    exact (congrArg _ (Cert.Equation.row_eq _)).symm

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
